-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S2048x1024 : Shape := ⟨2, ![2048, 1024]⟩
abbrev S1x2048x1024 : Shape := ⟨3, ![1, 2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Blocks.lean ====
/-
  What the kernel's result array holds after the run: at (batch b, position s, feature d) it is
  `x[b, s, d] + pos_table[s, d]`. One grid point adds one block of 2048 rows of the table to the block of `x` it was
  handed (`flushed_eq`), the 16 blocks fill the array (`cover`), so the array is that sum everywhere (`final`).
-/
module

public import proofs.«01_k».proof.Defs
public import proofs.«01_k».proof.Proof.Gen.KernelIdeal.Value
public import Idealize.ShloMosaic.Lib.ValueIdxCore

@[expose] public section

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The table row and feature that an index of the result names: its last two coordinates. -/
abbrev rowOf (i : S4x8192x1024.Idx) : S8192x1024.Idx := ix2 (n0 := 8192) (n1 := 1024) (i 1) (i 2)

/-- The sum of `x` and the table, the table repeated along the batch: what the kernel is shown to compute. -/
def posSum (x : Vec F S4x8192x1024 .f32) (p : Vec F S8192x1024 .f32) : Vec F S4x8192x1024 .f32 :=
  fun i => FloatOps.addf (x i) (p (rowOf i))

variable (m : (ℓ : Loc nD τ sig) → Buf (Elt F) ℓ) (ρ : Dev nD → PrngReg)

/-- The sum of device `c`'s two argument arrays. -/
abbrev G (c : Dev nD) : Buf (Elt F) ((c : Thread nD τ).loc main_v0) :=
  posSum (m ((c : Thread nD τ).loc main_arg0)) (m ((c : Thread nD τ).loc main_arg1))

/-- Point `t` of the grid stands for row block `t / 4` and batch entry `t % 4`; the three windows' block indices there:
    the result's and `x`'s are (batch, row block, 0), the table's (row block, 0). -/
theorem index_eq : ∀ t : Fin cfg0.N,
    win0_2.index t 0 = t.val % 4 ∧ win0_2.index t 1 = t.val / 4 ∧ win0_2.index t 2 = 0
    ∧ win0_1.index t 0 = t.val % 4 ∧ win0_1.index t 1 = t.val / 4 ∧ win0_1.index t 2 = 0
    ∧ win0_0.index t 0 = t.val / 4 ∧ win0_0.index t 1 = 0 :=
  (by decide +kernel : ∀ t : Fin grid0.N,
    win0_2.index t 0 = t.val % 4 ∧ win0_2.index t 1 = t.val / 4 ∧ win0_2.index t 2 = 0
    ∧ win0_1.index t 0 = t.val % 4 ∧ win0_1.index t 1 = t.val / 4 ∧ win0_1.index t 2 = 0
    ∧ win0_0.index t 0 = t.val / 4 ∧ win0_0.index t 1 = 0)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's result for one point, element by element: the block of `x` plus the block of the table. -/
theorem out_apply (p : Vec F S2048x1024 .f32) (x : Vec F S1x2048x1024 .f32) (y : S1x2048x1024.Idx) :
    out0_2 p x y = FloatOps.addf (x (Value.ix2_0 y)) (p (Value.ix2_1 y)) := by
  unfold out0_2
  rw [View.ld_unit_zero zero3, View.ld_unit_zero zero2]
  exact Value.canon2_eq x p y

/-- What point `t` writes back is its block of `posSum`. -/
theorem flushed_eq (c : Dev nD) (t : Fin cfg0.N) :
    (dats m 0 c).flushed 2 t = (win0_2.blk t).view.read (Elt F) (G m c) := by
  rw [Value.flushed2]
  funext y
  have hy0 : (y 0).val < 1 := (y 0).isLt
  obtain ⟨a0, a1, a2, b0, b1, b2, c0, c1⟩ := index_eq t
  have e0 : ((win0_1.blk t).view.emb (Value.ix2_0 y)) = ((win0_2.blk t).view.emb y) := by
    funext a
    apply Fin.ext
    match a with
    | ⟨0, _⟩ =>
      show win0_1.index t 0 * 1 + 1 * 0 = win0_2.index t 0 * 1 + 1 * (y 0).val
      rw [a0, b0]; omega
    | ⟨1, _⟩ =>
      show win0_1.index t 1 * 2048 + 1 * (y 1).val = win0_2.index t 1 * 2048 + 1 * (y 1).val
      rw [a1, b1]
    | ⟨2, _⟩ =>
      show win0_1.index t 2 * 1024 + 1 * (y 2).val = win0_2.index t 2 * 1024 + 1 * (y 2).val
      rw [a2, b2]
  have e1 : ((win0_0.blk t).view.emb (Value.ix2_1 y)) = rowOf ((win0_2.blk t).view.emb y) := by
    funext a
    apply Fin.ext
    match a with
    | ⟨0, _⟩ =>
      show win0_0.index t 0 * 2048 + 1 * (y 1).val = win0_2.index t 1 * 2048 + 1 * (y 1).val
      rw [a1, c0]
    | ⟨1, _⟩ =>
      show win0_0.index t 1 * 1024 + 1 * (y 2).val = win0_2.index t 2 * 1024 + 1 * (y 2).val
      rw [a2, c1]
  refine (out_apply (iblk m c 0 t) (iblk m c 1 t) y).trans ?_
  show FloatOps.addf (m ((c : Thread nD τ).loc main_arg0) ((win0_1.blk t).view.emb (Value.ix2_0 y)))
      (m ((c : Thread nD τ).loc main_arg1) ((win0_0.blk t).view.emb (Value.ix2_1 y)))
    = FloatOps.addf (m ((c : Thread nD τ).loc main_arg0) ((win0_2.blk t).view.emb y))
      (m ((c : Thread nD τ).loc main_arg1) (rowOf ((win0_2.blk t).view.emb y)))
  rw [e0, e1]

/-- The indices of point `t`'s block: batch entry `t % 4`, rows from `2048 (t / 4)` on. -/
theorem mem_block (t : Fin cfg0.N) (i : S4x8192x1024.Idx)
    (h0 : (i 0).val = t.val % 4) (h1 : (i 1).val / 2048 = t.val / 4) : i ∈ ((cfg0.win 2).blk t).view.set := by
  show i ∈ ((View.whole main_v0).slice (win0_2.rect t)).set
  rw [View.set_slice_whole, Rect.mem_set_unit]
  have h2 : (i 2).val < 1024 := (i 2).isLt
  obtain ⟨a0, a1, a2, -⟩ := index_eq t
  intro a
  match a with
  | ⟨0, _⟩ =>
    show win0_2.index t 0 * 1 ≤ (i 0).val ∧ (i 0).val < win0_2.index t 0 * 1 + 1
    rw [a0]; omega
  | ⟨1, _⟩ =>
    show win0_2.index t 1 * 2048 ≤ (i 1).val ∧ (i 1).val < win0_2.index t 1 * 2048 + 2048
    rw [a1]; omega
  | ⟨2, _⟩ =>
    show win0_2.index t 2 * 1024 ≤ (i 2).val ∧ (i 2).val < win0_2.index t 2 * 1024 + 1024
    rw [a2]; omega

/-- The 16 blocks fill the result array: row block `s / 2048` and batch entry `b` meet at point `4 (s / 2048) + b`. -/
theorem cover (i : S4x8192x1024.Idx) :
    ∃ t : Fin cfg0.N, (cfg0.win 2).flush t = true ∧ i ∈ ((cfg0.win 2).blk t).view.set := by
  have h0 : (i 0).val < 4 := (i 0).isLt
  have h1 : (i 1).val < 8192 := (i 1).isLt
  have hN : cfg0.N = 16 := N_0
  have ht : (i 1).val / 2048 * 4 + (i 0).val < cfg0.N := by rw [hN]; omega
  exact ⟨⟨_, ht⟩, flush0_2 _, mem_block _ i (by show _ = ((i 1).val / 2048 * 4 + (i 0).val) % 4; omega)
    (by show _ = ((i 1).val / 2048 * 4 + (i 0).val) / 4; omega)⟩

/-- After the last grid point the result array is `posSum` of the arguments. -/
theorem final (c : Dev nD) : (dats m 0 c).arrAt 2 cfg0.N = G m c :=
  (dats m 0 c).arrAt_eq_of_cover 2 (G m c) (fun t _ => flushed_eq m c t) cover

/-- The kernel's run: the result array ends at `posSum` of the arguments, which are unchanged. -/
theorem run : θ_run defs (onTc (τ := τ) (main (F := F))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Blocks

end
-- ==== Proof.Lookup.lean ====
/-
  What the reference computes. `jnp.take(pos_table, arange(8192)[None, :], axis=0)` is printed as: the positions, wrapped
  where negative; a gather of table rows at them; and a mask that puts a NaN where a position is outside the table.
  Position `s` is `s` itself, never negative and never outside (`pos_apply`, `inside`), so the lookup is the table's
  row `s` (`lookup_apply`), and the reference is `x[b, s, d] + pos_table[s, d]`.
-/
module

public import proofs.«01_k».proof.Defs
public import proofs.«01_k».proof.Proof.Gen.ReferenceIdeal.Run
public import Idealize.ShloMosaic.Lib.ValueIdxCore
public import Idealize.ShloMosaic.Lib.IdealHost
public import Idealize.ShloMosaic.Lib.ReduceAll
public import Idealize.ShloMosaic.Lib.Pipeline.Value

@[expose] public section

set_option maxRecDepth 16384

noncomputable section

namespace Cert.ReferenceIdeal.Lookup

open Cert.ReferenceIdeal Cert.ReferenceIdeal.Gen
open Idealize.ShloMosaic Idealize.ShloMosaic.TcCoe Idealize.ShloMosaic.ValueIdx Idealize.SL.Sem

variable {F : FTy → Type} [FloatOps F]

/-! ## The positions -/

/-- `arange(8192)[None, :]`. -/
abbrev arange : IVec S1x8192 32 := broadcastInDim S1x8192 ![1] bcast_S8192_S1x8192_1 (iotaInDim S8192 32 0)

/-- The positions after the wrap of negative ones, as the start indices of the gather. -/
def pos : IVec S1x8192x1 32 :=
  broadcastInDim S1x8192x1 ![0, 1] bcast_S1x8192_S1x8192x1_0_1
    (select (cmpi .slt arange (broadcastInDim S1x8192 ![] bcast_S_S1x8192 (constantI S_ 32 0#32)))
      (addi arange (broadcastInDim S1x8192 ![] bcast_S_S1x8192 (constantI S_ 32 8192#32))) arange)

/-- A number below 8192, as a 32-bit word read signed, is itself. -/
theorem toInt_small (n : Nat) (h : n < 8192) : (BitVec.ofNat 32 n).toInt = n := by
  have hn : (BitVec.ofNat 32 n).toNat = n := by
    rw [BitVec.toNat_ofNat]; exact Nat.mod_eq_of_lt (by omega)
  rw [BitVec.toInt_eq_toNat_of_lt (by rw [hn]; omega), hn]

theorem arange_apply (j : S1x8192.Idx) : arange j = BitVec.ofNat 32 (j 1).val :=
  (broadcastInDim_apply _ _ _ j (ix1 (n := 8192) (j 1)) (fun a => by
    obtain rfl : a = 0 := Subsingleton.elim _ _; rfl)).trans rfl

/-- Position `s` is the word `s`: it is not negative, so nothing is wrapped. -/
theorem pos_apply (k : S1x8192x1.Idx) : pos k = BitVec.ofNat 32 (k 1).val := by
  have hk : (k 1).val < 8192 := (k 1).isLt
  have hk0 : (k 0).val < 1 := (k 0).isLt
  unfold pos
  rw [broadcastInDim_apply _ _ _ k (ix2 (n0 := 1) (n1 := 8192) (k 0) (k 1)) (fun a => by
    match a with
    | ⟨0, _⟩ => show (k 0).val = 0; omega
    | ⟨1, _⟩ => rfl)]
  show Scalar.select (IntOp.cmpi .slt (arange _) 0#32) _ (arange _) = _
  rw [arange_apply]
  have : IntOp.cmpi .slt (BitVec.ofNat 32 (k 1).val) 0#32 = 0#1 := by
    show BitVec.ofBool ((BitVec.ofNat 32 (k 1).val).slt 0#32) = 0#1
    rw [BitVec.slt, toInt_small _ hk]
    have : ¬((k 1).val : Int) < 0 := by omega
    exact congrArg BitVec.ofBool (decide_eq_false this)
  show Scalar.select (IntOp.cmpi .slt (BitVec.ofNat 32 (k 1).val) 0#32) _ _ = _
  rw [this]
  rfl

/-! ## The mask of positions outside the table -/

/-- The mask: position at least 0 and at most 8191, over the (one) component of each start index. -/
def inside : IVec S1x8192 1 :=
  Host.reduce IntOp.andi
    (andi (cmpi .sge pos (broadcastInDim S1x8192x1 ![] bcast_S_S1x8192x1 (constantI S_ 32 0#32)))
      (cmpi .sle pos (broadcastInDim S1x8192x1 ![0, 1, 2] bcast_S1x1x1_S1x8192x1_0_1_2
        (broadcastInDim S1x1x1 ![2] bcast_S1_S1x1x1_2 (constantI S1 32 8191#32)))))
    (constantI S_ 1 1#1) reducesTo_S1x8192x1_S1x8192_d2 h_S_

/-- Every position is inside. -/
theorem inside_apply (j : S1x8192.Idx) : inside j = 1#1 := by
  refine Host.reduce_andi_one _ _ _ _ j rfl fun k => ?_
  have hk : (k 1).val < 8192 := (k 1).isLt
  show IntOp.andi (IntOp.cmpi .sge (pos k) 0#32) (IntOp.cmpi .sle (pos k) 8191#32) = 1#1
  rw [pos_apply]
  have h1 : IntOp.cmpi .sge (BitVec.ofNat 32 (k 1).val) 0#32 = 1#1 := by
    show BitVec.ofBool ((0#32).sle (BitVec.ofNat 32 (k 1).val)) = 1#1
    rw [BitVec.sle, toInt_small _ hk]
    simp
  have h2 : IntOp.cmpi .sle (BitVec.ofNat 32 (k 1).val) 8191#32 = 1#1 := by
    show BitVec.ofBool ((BitVec.ofNat 32 (k 1).val).sle 8191#32) = 1#1
    rw [BitVec.sle, toInt_small _ hk, toInt_small 8191 (by omega)]
    have : ((k 1).val : Int) ≤ 8191 := by omega
    simp [this]
  rw [h1, h2]
  rfl

/-! ## The lookup -/

/-- The gather's dimension numbers: rows of a (8192, 1024) table at a (1, 8192, 1) array of row numbers. -/
abbrev rows : GatherDims S8192x1024 S1x8192x1 S1x8192x1024 := gather_S8192x1024_S1x8192x1_S1x8192x1024_2_0_n_n_0_2_11024

/-- On the row axis the gather reads at the position, which the clamp into the table leaves alone, -/
theorem start_row (j : S1x8192x1024.Idx) : rows.start j pos (0 : Fin 2) = (j 1).val := by
  have hj : (j 1).val < 8192 := (j 1).isLt
  unfold GatherDims.start
  rw [dif_pos (show (0 : Fin 2) ∈ rows.startIndexMap from List.mem_singleton.mpr rfl), pos_apply]
  show min (BitVec.ofNat 32 (j 1).val).toInt.toNat (8192 - 1) = (j 1).val
  rw [toInt_small _ hj]
  omega

/-- with no offset; -/
theorem off_row (j : S1x8192x1024.Idx) : rows.offCoord j (0 : Fin 2) = 0 :=
  GatherDims.offCoord_eq_zero _ _ _ fun h => ((GatherDims.mem_sKept _ _).mp h).1 (List.mem_singleton.mpr rfl)

/-- on the feature axis it starts at 0, -/
theorem start_feature (j : S1x8192x1024.Idx) : rows.start j pos (1 : Fin 2) = 0 :=
  dif_neg (show ¬(1 : Fin 2) ∈ ([0] : List (Fin 2)) by decide)

/-- and takes the result's own feature. -/
theorem off_feature (j : S1x8192x1024.Idx) : rows.offCoord j (1 : Fin 2) = (j 2).val := by
  unfold GatherDims.offCoord
  rw [dif_pos ((GatherDims.mem_sKept rows (1 : Fin 2)).mpr
    ⟨show ¬(1 : Fin 2) ∈ ([0] : List (Fin 2)) by decide, List.not_mem_nil⟩)]
  rfl

/-- The gather at (0, s, d), its start indices being the positions, is the table at (s, d). -/
theorem gather_apply {α : Type} (p : S8192x1024.Idx → α) (j : S1x8192x1024.Idx) :
    Host.gather rows p pos j = p (ix2 (n0 := 8192) (n1 := 1024) (j 1) (j 2)) := by
  unfold Host.gather
  congr 1
  funext a
  refine Fin.ext ?_
  show rows.start j pos a + rows.batchCoord j a + rows.offCoord j a = _
  rw [GatherDims.batchCoord_eq_zero _ _ _ List.not_mem_nil, Nat.add_zero]
  match a with
  | ⟨0, _⟩ => exact congrArg₂ (· + ·) (start_row j) (off_row j)
  | ⟨1, _⟩ => exact (congrArg₂ (· + ·) (start_feature j) (off_feature j)).trans (Nat.zero_add _)

/-- `jnp.take(pos_table, arange(8192)[None, :], axis=0)`, as printed. -/
def lookup (p : FVec F S8192x1024 .f32) : FVec F S1x8192x1024 .f32 :=
  select (broadcastInDim S1x8192x1024 ![0, 1] bcast_S1x8192_S1x8192x1024_0_1 inside) (Host.gather rows p pos)
    (broadcastInDim S1x8192x1024 ![] bcast_S_S1x8192x1024 (constant S_ .f32 0x7FC00000#32))

/-- The lookup is the table with a leading axis of extent one. -/
theorem lookup_apply (p : FVec F S8192x1024 .f32) (j : S1x8192x1024.Idx) :
    lookup p j = p (ix2 (n0 := 8192) (n1 := 1024) (j 1) (j 2)) := by
  show Scalar.select (inside _) (Host.gather rows p pos j) _ = _
  rw [inside_apply, gather_apply]
  rfl

/-- The reference's result as printed: `x` plus the lookup, repeated along the batch. -/
def result (x : FVec F S4x8192x1024 .f32) (p : FVec F S8192x1024 .f32) : FVec F S4x8192x1024 .f32 :=
  addf x (broadcastInDim S4x8192x1024 ![0, 1, 2] bcast_S1x8192x1024_S4x8192x1024_0_1_2 (lookup p))

/-- The reference at (b, s, d): `x[b, s, d] + pos_table[s, d]`. -/
theorem result_apply (x : FVec F S4x8192x1024 .f32) (p : FVec F S8192x1024 .f32) (i : S4x8192x1024.Idx) :
    result x p i = FloatOps.addf (x i) (p (ix2 (n0 := 8192) (n1 := 1024) (i 1) (i 2))) := by
  have hb : broadcastInDim S4x8192x1024 ![0, 1, 2] bcast_S1x8192x1024_S4x8192x1024_0_1_2 (lookup p) i
      = lookup p (ix3 (n0 := 1) (n1 := 8192) (n2 := 1024) 0 (i 1) (i 2)) :=
    broadcastInDim_apply _ _ _ i _ (fun a => by
      match a with
      | ⟨0, _⟩ => rfl
      | ⟨1, _⟩ => rfl
      | ⟨2, _⟩ => rfl)
  show FloatOps.addf (x i) _ = _
  rw [hb, lookup_apply]

/-- The reference's run: the result array ends at `result` of the arguments, which are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.Lookup

end
-- ==== Proof.lean ====
/-
  The proof of `Cert.Claim`: the kernel, its idealization and the reference each run to the end with their arguments
  unchanged and every semaphore at zero; the idealization is the kernel's own text; and over the extended reals the
  kernel computes the reference. Proof/Blocks.lean has the kernel's result, Proof/Lookup.lean the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Blocks
public import proofs.«01_k».proof.Proof.Lookup
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: its run leaves the arguments unchanged, and it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Lookup.run (F := Ideal) m ρ)

/-- Kernel and reference end with the same array over the extended reals: both are `x[b, s, d] + pos_table[s, d]`. -/
theorem algebraic : Cert.algebraic_KernelIdeal_ReferenceIdeal := by
  intro m ρ m' ρ' _ hagree
  refine ⟨fun c => Cert.KernelIdeal.Blocks.G m c, Cert.KernelIdeal.Blocks.run (F := Ideal) m ρ, ?_⟩
  refine (θ_run Cert.ReferenceIdeal.defs _ _).mono (fun _ h c => ⟨(h c).1.trans ?_, (h c).2⟩)
    (Cert.ReferenceIdeal.Lookup.run (F := Ideal) m' ρ')
  rw [(hagree c).1, (hagree c).2]
  funext i
  exact Cert.ReferenceIdeal.Lookup.result_apply (F := Ideal) _ _ i

/-- The five claims: three frames, the idealization, the value. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    trivial, algebraic⟩

end Cert.Proof

end
